-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x32768 : Shape := ⟨3, ![16, 1, 32768]⟩
abbrev S16x1x64x64 : Shape := ⟨4, ![16, 1, 64, 64]⟩
abbrev S16x131072x512 : Shape := ⟨3, ![16, 131072, 512]⟩
abbrev S16x131072 : Shape := ⟨2, ![16, 131072]⟩
abbrev S16x131072x64 : Shape := ⟨3, ![16, 131072, 64]⟩
abbrev S16x64x512 : Shape := ⟨3, ![16, 64, 512]⟩
abbrev S16x64x64 : Shape := ⟨3, ![16, 64, 64]⟩
abbrev S1x64x512 : Shape := ⟨3, ![1, 64, 512]⟩
abbrev S1x64x64 : Shape := ⟨3, ![1, 64, 64]⟩
abbrev S1x2048x512 : Shape := ⟨3, ![1, 2048, 512]⟩
abbrev S1x2048x64 : Shape := ⟨3, ![1, 2048, 64]⟩
abbrev S64x1 : Shape := ⟨2, ![64, 1]⟩
abbrev S64x512 : Shape := ⟨2, ![64, 512]⟩
abbrev S64x64 : Shape := ⟨2, ![64, 64]⟩
abbrev S2048x512 : Shape := ⟨2, ![2048, 512]⟩
abbrev S2048x64 : Shape := ⟨2, ![2048, 64]⟩
abbrev S1x2048 : Shape := ⟨2, ![1, 2048]⟩
abbrev S64x2048 : Shape := ⟨2, ![64, 2048]⟩
abbrev S64 : Shape := ⟨1, ![64]⟩

abbrev nBuf : Space → Nat
  | .hbm => 9
  | .vmem => 14
  | .smem => 0
  | _ => 0

abbrev bufTy : (tb : Table) → Fin (tcTables nBuf tb) → BufTy
  | .hbm, ⟨0, _⟩ => ⟨S16x1x32768, .bf16⟩
  | .hbm, ⟨1, _⟩ => ⟨S16x1x64x64, .bf16⟩
  | .hbm, ⟨2, _⟩ => ⟨S16x131072x512, .fp8e4m3⟩
  | .hbm, ⟨3, _⟩ => ⟨S16x131072, .f32⟩
  | .hbm, ⟨4, _⟩ => ⟨S16x131072x64, .bf16⟩
  | .hbm, ⟨5, _⟩ => ⟨S16x64x512, .bf16⟩
  | .hbm, ⟨6, _⟩ => ⟨S16x64x64, .bf16⟩
  | .hbm, ⟨7, _⟩ => ⟨S16x64x512, .bf16⟩
  | .hbm, ⟨8, _⟩ => ⟨S16x1x32768, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S16x131072, .f32⟩
  | .local _ .vmem, ⟨7, _⟩ => ⟨S1x2048x64, .bf16⟩
  | .local _ .vmem, ⟨8, _⟩ => ⟨S1x2048x64, .bf16⟩
  | .local _ .vmem, ⟨9, _⟩ => ⟨S1x64x512, .bf16⟩
  | .local _ .vmem, ⟨10, _⟩ => ⟨S1x64x512, .bf16⟩
  | .local _ .vmem, ⟨11, _⟩ => ⟨S64x1, .f32⟩
  | .local _ .vmem, ⟨12, _⟩ => ⟨S64x1, .f32⟩
  | .local _ .vmem, ⟨13, _⟩ => ⟨S64x512, .f32⟩
  | _, _ => ⟨S16x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 64], ![false, false]⟩

def k0_off1 (i : grid0.Coords) : Fin 2 → Nat :=
  let arg0 : BitVec 32 := BitVec.ofNat 32 (i 0).val
  let v12 : Index := Scalar.indexCast arg0
  let arg1 : BitVec 32 := BitVec.ofNat 32 (i 1).val
  let c2048_i32 : BitVec 32 := 2048#32
  let v11 : BitVec 32 := Scalar.muli arg1 c2048_i32
  let v13 : Index := Scalar.indexCast v11
  ![v12.toNat, v13.toNat]
def k0_cond2 (i : grid0.Coords) : BitVec 1 :=
  let arg1 : BitVec 32 := BitVec.ofNat 32 (i 1).val
  let c63_i32 : BitVec 32 := 63#32
  let v53 : BitVec 1 := Scalar.cmpi .eq arg1 c63_i32
  let v54 : BitVec 32 := Scalar.extui v53
  let c0_i32_29 : BitVec 32 := 0#32
  let v55 : BitVec 1 := Scalar.cmpi .ne v54 c0_i32_29
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x131072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x1x32768 : Shape := ⟨3, ![16, 1, 32768]⟩
abbrev S16x1x64x64 : Shape := ⟨4, ![16, 1, 64, 64]⟩
abbrev S16x131072x512 : Shape := ⟨3, ![16, 131072, 512]⟩
abbrev S16x131072 : Shape := ⟨2, ![16, 131072]⟩
abbrev S16x131072x64 : Shape := ⟨3, ![16, 131072, 64]⟩
abbrev S16x1x64x512 : Shape := ⟨4, ![16, 1, 64, 512]⟩
abbrev S16x1x1x131072 : Shape := ⟨4, ![16, 1, 1, 131072]⟩
abbrev S16x1x64x131072 : Shape := ⟨4, ![16, 1, 64, 131072]⟩
abbrev S_ : Shape := ⟨0, ![]⟩
abbrev S16x1x64 : Shape := ⟨3, ![16, 1, 64]⟩
abbrev S16x1x64x1 : Shape := ⟨4, ![16, 1, 64, 1]⟩

abbrev nBuf : Space → Nat
  | .hbm => 32
  | .vmem => 2
  | .smem => 0
  | _ => 0

abbrev bufTy : (tb : Table) → Fin (tcTables nBuf tb) → BufTy
  | .hbm, ⟨0, _⟩ => ⟨S16x1x32768, .bf16⟩
  | .hbm, ⟨1, _⟩ => ⟨S16x1x64x64, .bf16⟩
  | .hbm, ⟨2, _⟩ => ⟨S16x131072x512, .fp8e4m3⟩
  | .hbm, ⟨3, _⟩ => ⟨S16x131072, .f32⟩
  | .hbm, ⟨4, _⟩ => ⟨S16x131072x64, .bf16⟩
  | .hbm, ⟨5, _⟩ => ⟨S16x1x64x512, .bf16⟩
  | .hbm, ⟨6, _⟩ => ⟨S16x131072x512, .bf16⟩
  | .hbm, ⟨7, _⟩ => ⟨S16x1x1x131072, .f32⟩
  | .hbm, ⟨8, _⟩ => ⟨S16x1x64x131072, .f32⟩
  | .hbm, ⟨9, _⟩ => ⟨S16x1x64x131072, .f32⟩
  | .hbm, ⟨10, _⟩ => ⟨S16x1x64x131072, .f32⟩
  | .hbm, ⟨11, _⟩ => ⟨S16x1x64x131072, .f32⟩
  | .hbm, ⟨12, _⟩ => ⟨S16x1x64x131072, .f32⟩
  | .hbm, ⟨13, _⟩ => ⟨S_, .f32⟩
  | .hbm, ⟨14, _⟩ => ⟨S16x1x64x131072, .f32⟩
  | .hbm, ⟨15, _⟩ => ⟨S16x1x64x131072, .f32⟩
  | .hbm, ⟨16, _⟩ => ⟨S_, .f32⟩
  | .hbm, ⟨17, _⟩ => ⟨S16x1x64, .f32⟩
  | .hbm, ⟨18, _⟩ => ⟨S16x1x64x1, .f32⟩
  | .hbm, ⟨19, _⟩ => ⟨S16x1x64x131072, .f32⟩
  | .hbm, ⟨20, _⟩ => ⟨S16x1x64x131072, .f32⟩
  | .hbm, ⟨21, _⟩ => ⟨S16x1x64x131072, .f32⟩
  | .hbm, ⟨22, _⟩ => ⟨S_, .f32⟩
  | .hbm, ⟨23, _⟩ => ⟨S16x1x64, .f32⟩
  | .hbm, ⟨24, _⟩ => ⟨S16x1x64x131072, .f32⟩
  | .hbm, ⟨25, _⟩ => ⟨S16x1x64x131072, .f32⟩
  | .hbm, ⟨26, _⟩ => ⟨S16x1x64x512, .f32⟩
  | .hbm, ⟨27, _⟩ => ⟨S16x1x64x1, .f32⟩
  | .hbm, ⟨28, _⟩ => ⟨S16x1x64x512, .f32⟩
  | .hbm, ⟨29, _⟩ => ⟨S16x1x64x512, .f32⟩
  | .hbm, ⟨30, _⟩ => ⟨S16x1x32768, .f32⟩
  | .hbm, ⟨31, _⟩ => ⟨S16x1x32768, .bf16⟩
  | .local _ .vmem, ⟨0, _⟩ => ⟨S16x131072x512, .fp8e4m3⟩
  | .local _ .vmem, ⟨1, _⟩ => ⟨S16x131072x512, .bf16⟩
  | _, _ => ⟨S16x1x32768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x131072x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x131072x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Online.lean ====
module

public import Idealize.ShloMosaic.PureOps.Ideal
public import Mathlib.Algebra.BigOperators.Fin

/-!
  The softmax recurrence over the extended reals, apart from any program.

  A row of scores `s 0, s 1, …` and of weights `w 0, w 1, …` is read from left to right. `top s n` is the largest of
  the first `n` scores (`-∞` for none) and `acc s w n = ∑ i < n, exp (s i - top s n) * w i`. The decode kernel holds
  `top`, `acc` with weights one and `acc` with the weights of each output column, and moves them over a block of
  tokens at a time, rescaling the old sums by `exp (old maximum - new maximum)`; `top_add` and `acc_add` say that
  this is exact, whatever the scores and weights are, infinite ones included.
-/

@[expose] public section

noncomputable section

namespace Online

open Idealize.ShloMosaic

/-- The bit pattern `0xFF800000` denotes `-∞`. -/
theorem ofBits_negInf : Ideal.ofBits .f32 0xFF800000#32 = ⊥ := by
  simp [Ideal.ofBits, Ideal.ieee]

/-- The largest of the first `n` scores; `-∞` when `n = 0`. -/
def top (s : ℕ → EReal) (n : ℕ) : EReal := (Finset.range n).sup s

/-- The first `n` weights, each times the exponential of its score's distance from the largest of them, summed. -/
def acc (s w : ℕ → EReal) (n : ℕ) : EReal := ∑ i ∈ Finset.range n, Ideal.exp (s i - top s n) * w i

/-- The largest of no scores is `-∞`. -/
theorem top_zero (s : ℕ → EReal) : top s 0 = ⊥ := by simp [top]

/-- The sum of no terms is zero. -/
theorem acc_zero (s w : ℕ → EReal) : acc s w 0 = 0 := by simp [acc]

/-- A finite sum times a nonnegative real number is the sum of the products (extended-real multiplication does not
    distribute in general, but by such a factor it does). -/
theorem sum_mul_coe {ι : Type} (S : Finset ι) (f : ι → EReal) (a : ℝ) (ha : 0 ≤ a) :
    (∑ i ∈ S, f i) * (a : EReal) = ∑ i ∈ S, f i * (a : EReal) := by
  classical
  induction S using Finset.induction_on with
  | empty => simp
  | insert i S hi ih =>
    rw [Finset.sum_insert hi, Finset.sum_insert hi, ← ih]
    exact EReal.right_distrib_of_nonneg_of_ne_top (by exact_mod_cast ha) (EReal.coe_ne_top a) _ _

/-- RESCALING: sums taken relative to an upper bound `m` of the scores become sums relative to a larger `m'` when
    multiplied by `exp (m - m')`. Both sides are zero where `m'` is infinite or `m` is `-∞`. -/
theorem rescale {ι : Type} (S : Finset ι) (s w : ι → EReal) (m m' : EReal) (hm : ∀ i ∈ S, s i ≤ m) (hmm : m ≤ m') :
    (∑ i ∈ S, Ideal.exp (s i - m) * w i) * Ideal.exp (m - m') = ∑ i ∈ S, Ideal.exp (s i - m') * w i := by
  induction m' with
  | top =>
    have h : ∀ x : EReal, Ideal.exp (x - ⊤) = 0 := fun x => by rw [sub_eq_add_neg, EReal.neg_top, EReal.add_bot, Ideal.exp_bot]
    simp only [h, mul_zero, zero_mul, Finset.sum_const_zero]
  | bot =>
    obtain rfl : m = ⊥ := le_bot_iff.mp hmm
    have h0 : Ideal.exp ((⊥ : EReal) - ⊥) = 0 := by rw [sub_eq_add_neg, EReal.bot_add, Ideal.exp_bot]
    rw [h0, mul_zero]
    refine (Finset.sum_eq_zero fun i hi => ?_).symm
    rw [le_bot_iff.mp (hm i hi), h0, zero_mul]
  | coe b =>
    have h0 : ∀ y : EReal, Ideal.exp ((⊥ : EReal) - y) = 0 := fun y => by rw [sub_eq_add_neg, EReal.bot_add, Ideal.exp_bot]
    induction m with
    | top => exact absurd (top_le_iff.mp hmm) (EReal.coe_ne_top b)
    | bot =>
      rw [h0, mul_zero]
      refine (Finset.sum_eq_zero fun i hi => ?_).symm
      rw [le_bot_iff.mp (hm i hi), h0, zero_mul]
    | coe a =>
      rw [← EReal.coe_sub, Ideal.exp_coe, sum_mul_coe _ _ _ (Real.exp_pos _).le]
      refine Finset.sum_congr rfl fun i hi => ?_
      have hi' := hm i hi
      revert hi'
      induction s i with
      | top => intro hi'; exact absurd (top_le_iff.mp hi') (EReal.coe_ne_top a)
      | bot => intro _; simp only [h0, zero_mul]
      | coe x =>
        intro _
        rw [← EReal.coe_sub, ← EReal.coe_sub, Ideal.exp_coe, Ideal.exp_coe, mul_right_comm, ← EReal.coe_mul, ← Real.exp_add,
          sub_add_sub_cancel]

/-- The largest of the first `n + k` scores, from the largest of the first `n` and that of the next `k`. -/
theorem top_add (s : ℕ → EReal) (n k : ℕ) :
    top s (n + k) = max (top s n) (Finset.univ.fold max ⊥ fun j : Fin k => s (n + j)) := by
  have e : (Finset.univ.fold max ⊥ fun j : Fin k => s (n + j)) = Finset.univ.sup fun j : Fin k => s (n + j) := rfl
  rw [e]
  refine le_antisymm (Finset.sup_le fun i hi => ?_) (max_le (Finset.sup_mono fun i hi => ?_) (Finset.sup_le fun j _ => ?_))
  · rw [Finset.mem_range] at hi
    rcases Nat.lt_or_ge i n with h | h
    · exact le_max_of_le_left (Finset.le_sup (f := s) (Finset.mem_range.mpr h))
    · refine le_max_of_le_right ?_
      have := Finset.le_sup (f := fun j : Fin k => s (n + j)) (Finset.mem_univ ⟨i - n, by omega⟩)
      simpa only [Nat.add_sub_cancel' h] using this
  · rw [Finset.mem_range] at hi ⊢; omega
  · exact Finset.le_sup (f := s) (Finset.mem_range.mpr (by omega))

/-- A score among the first `n` is at most the largest of them. -/
theorem le_top (s : ℕ → EReal) (n i : ℕ) (hi : i < n) : s i ≤ top s n := Finset.le_sup (f := s) (Finset.mem_range.mpr hi)

/-- The maximum grows with the number of scores. -/
theorem top_mono (s : ℕ → EReal) {n n' : ℕ} (h : n ≤ n') : top s n ≤ top s n' :=
  Finset.sup_mono (Finset.range_subset_range.mpr h)

/-- The weighted sum over the first `n + k`: the sum over the first `n`, rescaled, plus the next `k` terms. -/
theorem acc_add (s w : ℕ → EReal) (n k : ℕ) :
    acc s w (n + k) = acc s w n * Ideal.exp (top s n - top s (n + k))
      + ∑ j : Fin k, Ideal.exp (s (n + j) - top s (n + k)) * w (n + j) := by
  unfold acc
  rw [rescale _ s w _ _ (fun i hi => le_top s n i (Finset.mem_range.mp hi)) (top_mono s (Nat.le_add_right n k)),
    Finset.sum_range_add, Finset.sum_range (fun j => Ideal.exp (s (n + j) - top s (n + k)) * w (n + j))]

/-- All of a row of `N` scores: `top` is the maximum over the row, as a fold. -/
theorem top_all (s : ℕ → EReal) (N : ℕ) : top s N = Finset.univ.fold max ⊥ fun j : Fin N => s j := by
  have := top_add s 0 N
  rw [top_zero, Nat.zero_add] at this
  rw [this, max_eq_right bot_le]
  simp only [Nat.zero_add]

/-- All of a row of `N`: the sum over the row. -/
theorem acc_all (s w : ℕ → EReal) (N : ℕ) : acc s w N = ∑ j : Fin N, Ideal.exp (s j - top s N) * w j :=
  Finset.sum_range _

end Online

end
-- ==== Proof.Decode.lean ====
module

public import proofs.«01_k».proof.Proof.Gen.KernelIdeal.Frame
public import proofs.«01_k».proof.Proof.Online
public import Idealize.ShloMosaic.Lib.Pipeline.ValueKit
public import Idealize.ShloMosaic.Lib.Pointwise

/-!
  The attention decode step as a function of the five argument arrays: the score of a head against a cached token, the
  weight of a token in an output column, and the attention output. Both programs are shown to compute `out`.
-/

@[expose] public section

set_option maxRecDepth 16384

noncomputable section

namespace Cert.Decode

open Idealize.ShloMosaic Cert.KernelIdeal

/-- Token number `i` of the cache (taken modulo the cache's length, so that rows can be indexed by any natural number). -/
def tok (i : ℕ) : Fin 131072 := ⟨i % 131072, Nat.mod_lt _ (by decide)⟩

/-- A token number below the length of the cache is itself. -/
theorem tok_val (i : Fin 131072) : tok i = i := Fin.ext (Nat.mod_eq_of_lt i.isLt)

variable (x : FVec Ideal S16x1x32768 .bf16) (qr : FVec Ideal S16x1x64x64 .bf16) (k : FVec Ideal S16x131072x512 .fp8e4m3)
  (sc : FVec Ideal S16x131072 .f32) (kr : FVec Ideal S16x131072x64 .bf16)

/-- The score of head `h` of batch row `b` against token `i`: the latent dot product with the token's codes, times the
    token's scale, plus the rotary dot product, times the score scale. -/
def score (b : Fin 16) (h : Fin 64) (i : ℕ) : EReal :=
  ((∑ c : Fin 512, x (ix3 b 0 ⟨h.val * 512 + c.val, by omega⟩) * k (ix3 b (tok i) c)) * sc (ix2 b (tok i))
    + ∑ c : Fin 64, qr (ix4 b 0 h c) * kr (ix3 b (tok i) c)) * Ideal.ofBits .f32 0x3D93CD3A#32

/-- Token `i`'s dequantized code in column `c`: what its softmax weight multiplies. -/
def value (b : Fin 16) (c : Fin 512) (i : ℕ) : EReal := sc (ix2 b (tok i)) * k (ix3 b (tok i) c)

/-- The attention output of batch row `b`, head `h`, column `c`: the softmax-weighted sum of the dequantized codes. -/
def out (b : Fin 16) (h : Fin 64) (c : Fin 512) : EReal :=
  Ideal.div (Online.acc (score x qr k sc kr b h) (value k sc b c) 131072)
    (Online.acc (score x qr k sc kr b h) (fun _ => 1) 131072)

end Cert.Decode

end
-- ==== Proof.Payload.lean ====
module

public import proofs.«01_k».proof.Proof.Gen.KernelIdeal.Skeleton
public import proofs.«01_k».proof.Proof.Online
public import Idealize.ShloMosaic.Lib.Pointwise

/-!
  What the decode step stores, one element at a time, over the blocks it loads: the scores of a block of tokens, and the
  three scratch arrays and the output block computed from them and from the scratch left before.
-/

@[expose] public section

set_option maxRecDepth 16384

noncomputable section

namespace Cert.KernelIdeal.Value

open Idealize.ShloMosaic Idealize.ShloMosaic.TcCoe Idealize.SL.Sem
open Cert.KernelIdeal Cert.KernelIdeal.Gen

variable (q : FVec Ideal S1x64x512 .bf16) (r : FVec Ideal S1x64x64 .bf16) (k : FVec Ideal S1x2048x512 .fp8e4m3)
  (p : FVec Ideal S1x2048x64 .bf16) (sc : FVec Ideal S1x2048 .f32) (pm pl : FVec Ideal S64x1 .f32) (po : FVec Ideal S64x512 .f32)

/-- The score of head `h` against token `j` of the block. -/
theorem score_at (h : Fin 64) (j : Fin 2048) : k0_pay9 (F := Ideal) q r k p sc (ix2 h j)
    = ((∑ c : Fin 512, q (ix3 0 h c) * k (ix3 0 j c)) * sc (ix2 0 j) + ∑ c : Fin 64, r (ix3 0 h c) * p (ix3 0 j c))
      * Ideal.ofBits .f32 0x3D93CD3A#32 := by
  pointwise [k0_pay9, k0_pay8]

/-- The new maximum of head `h`: of the old one and of the block's scores. -/
theorem max_at (h : Fin 64) (z : Fin 1) : k0_pay10 (F := Ideal) q r k p sc pm (ix2 h z)
    = max (pm (ix2 h 0)) (Finset.univ.fold max ⊥ fun j : Fin 2048 => k0_pay9 (F := Ideal) q r k p sc (ix2 h j)) := by
  obtain rfl : z = 0 := Subsingleton.elim _ _
  rw [← Online.ofBits_negInf]
  pointwise [k0_pay10]

/-- The stored maximum. -/
theorem maxStore_at (x : FVec Ideal S64x1 .f32) : k0_pay2 (F := Ideal) x = x := by
  funext j; idx_vars j; pointwise [k0_pay2]

/-- The new sum of exponentials of head `h`. -/
theorem sum_at (h : Fin 64) (z : Fin 1) : k0_pay1 (F := Ideal) (k0_pay11 (F := Ideal) q r k p sc pm) (k0_pay13 (F := Ideal) q r k p sc pm pl) (ix2 h z)
    = pl (ix2 h 0) * Ideal.exp (pm (ix2 h 0) - k0_pay10 (F := Ideal) q r k p sc pm (ix2 h 0))
      + ∑ j : Fin 2048, Ideal.exp (k0_pay9 (F := Ideal) q r k p sc (ix2 h j) - k0_pay10 (F := Ideal) q r k p sc pm (ix2 h 0)) := by
  obtain rfl : z = 0 := Subsingleton.elim _ _
  pointwise [k0_pay1, k0_pay13, k0_pay12, k0_pay11]

/-- The new accumulator of head `h` at column `c`. -/
theorem acc_at (h : Fin 64) (c : Fin 512) :
    k0_pay3 (F := Ideal) (k0_pay8 (F := Ideal) k) sc (k0_pay11 (F := Ideal) q r k p sc pm) (k0_pay12 (F := Ideal) q r k p sc pm) po (ix2 h c)
    = po (ix2 h c) * Ideal.exp (pm (ix2 h 0) - k0_pay10 (F := Ideal) q r k p sc pm (ix2 h 0))
      + ∑ j : Fin 2048, Ideal.exp (k0_pay9 (F := Ideal) q r k p sc (ix2 h j) - k0_pay10 (F := Ideal) q r k p sc pm (ix2 h 0)) * sc (ix2 0 j) * k (ix3 0 j c) := by
  pointwise [k0_pay3, k0_pay8, k0_pay12, k0_pay11]

/-- The output block: the accumulator over the sum. -/
theorem out_at (z : Fin 1) (h : Fin 64) (c : Fin 512) :
    k0_pay4 (F := Ideal) po pl (ix3 z h c) = Ideal.div (po (ix2 h c)) (pl (ix2 h 0)) := by
  pointwise [k0_pay4]

/-- The maximum a run of blocks starts from: `-∞`. -/
theorem initMax_at (j : S64x1.Idx) : k0_pay5 (F := Ideal) j = ⊥ := by
  rw [← Online.ofBits_negInf]; pointwise [k0_pay5]

/-- The sum of exponentials a run of blocks starts from: zero. -/
theorem initSum_at (j : S64x1.Idx) : k0_pay6 (F := Ideal) j = (0 : EReal) := by
  pointwise [k0_pay6]

/-- The accumulator a run of blocks starts from: zero. -/
theorem initAcc_at (j : S64x512.Idx) : k0_pay7 (F := Ideal) j = (0 : EReal) := by
  pointwise [k0_pay7]

/-- ONE BLOCK. If the maximum and sum scratch hold, for head `h`, the maximum and the sum of exponentials of the first `n`
    scores of a row `s`, and the block's scores are the row's next 2048, then the new maximum is that of the first `n + 2048`. -/
theorem max_step (s : ℕ → EReal) (n : ℕ) (h : Fin 64) (z : Fin 1)
    (hs : ∀ j : Fin 2048, k0_pay9 (F := Ideal) q r k p sc (ix2 h j) = s (n + j)) (hm : pm (ix2 h 0) = Online.top s n) :
    k0_pay10 (F := Ideal) q r k p sc pm (ix2 h z) = Online.top s (n + 2048) := by
  rw [max_at, Online.top_add, hm]
  simp only [hs]

/-- … the new sum of exponentials is that of the first `n + 2048` … -/
theorem sum_step (s : ℕ → EReal) (n : ℕ) (h : Fin 64) (z : Fin 1)
    (hs : ∀ j : Fin 2048, k0_pay9 (F := Ideal) q r k p sc (ix2 h j) = s (n + j)) (hm : pm (ix2 h 0) = Online.top s n)
    (hl : pl (ix2 h 0) = Online.acc s (fun _ => 1) n) :
    k0_pay1 (F := Ideal) (k0_pay11 (F := Ideal) q r k p sc pm) (k0_pay13 (F := Ideal) q r k p sc pm pl) (ix2 h z) = Online.acc s (fun _ => 1) (n + 2048) := by
  rw [sum_at, Online.acc_add, max_step q r k p sc pm s n h 0 hs hm, hm, hl]
  simp only [hs, mul_one]

/-- … and the new accumulator is the weighted sum over the first `n + 2048`. -/
theorem acc_step (s w : ℕ → EReal) (n : ℕ) (h : Fin 64) (c : Fin 512)
    (hs : ∀ j : Fin 2048, k0_pay9 (F := Ideal) q r k p sc (ix2 h j) = s (n + j)) (hm : pm (ix2 h 0) = Online.top s n)
    (hw : ∀ j : Fin 2048, sc (ix2 0 j) * k (ix3 0 j c) = w (n + j))
    (ho : po (ix2 h c) = Online.acc s w n) :
    k0_pay3 (F := Ideal) (k0_pay8 (F := Ideal) k) sc (k0_pay11 (F := Ideal) q r k p sc pm) (k0_pay12 (F := Ideal) q r k p sc pm) po (ix2 h c) = Online.acc s w (n + 2048) := by
  rw [acc_at, Online.acc_add, max_step q r k p sc pm s n h 0 hs hm, hm, ho]
  refine congrArg _ (Finset.sum_congr rfl fun j _ => ?_)
  rw [mul_assoc, hw, hs]

end Cert.KernelIdeal.Value

end
-- ==== Proof.Blocks.lean ====
module

public import proofs.«01_k».proof.Proof.Decode
public import proofs.«01_k».proof.Proof.Payload
public import Idealize.ShloMosaic.Lib.Claim

/-!
  The blocks a grid point loads, as elements of the argument arrays: point `t` is block `t % 64` of the tokens of batch
  row `t / 64`.
-/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Decode

variable (m : (ℓ : Loc nD τ sig) → Buf (Elt Ideal) ℓ)

/-- Where each window's block sits at point `t`, and the place in the scales the body loads from there. -/
theorem idx : ∀ t : Fin cfg0.N, win0_0.index t = ![t.val / 64, 0, 0] ∧ win0_1.index t = ![t.val / 64, 0, 0]
    ∧ win0_2.index t = ![t.val / 64, t.val % 64, 0] ∧ win0_3.index t = ![0, 0] ∧ win0_4.index t = ![t.val / 64, t.val % 64, 0]
    ∧ win0_5.index t = ![t.val / 64, 0, 0] ∧ k0_off1 (grid0.coords t) = ![t.val / 64, t.val % 64 * 2048] ∧ t.val / 64 < 16 :=
  (by decide +kernel : ∀ t : Fin grid0.N, _)

/-- The batch row of point `t`. -/
def row (t : Fin cfg0.N) : Fin 16 := ⟨t.val / 64, (idx t).2.2.2.2.2.2.2⟩

/-- There are 1024 grid points. -/
theorem lt_N (t : Fin cfg0.N) : t.val < 1024 := lt_of_lt_of_eq t.isLt N_0

/-- The five argument arrays: `x`, the queries. -/
abbrev X (c : Dev nD) : FVec Ideal S16x1x32768 .bf16 := m ((c : Thread nD τ).loc main_arg0)
/-- The rotary queries. -/
abbrev QR (c : Dev nD) : FVec Ideal S16x1x64x64 .bf16 := m ((c : Thread nD τ).loc main_arg1)
/-- The cached codes. -/
abbrev K (c : Dev nD) : FVec Ideal S16x131072x512 .fp8e4m3 := m ((c : Thread nD τ).loc main_arg2)
/-- Their scales. -/
abbrev SC (c : Dev nD) : FVec Ideal S16x131072 .f32 := m ((c : Thread nD τ).loc main_arg3)
/-- The cached rotary keys. -/
abbrev KR (c : Dev nD) : FVec Ideal S16x131072x64 .bf16 := m ((c : Thread nD τ).loc main_arg4)

/-- The scales the body loads at point `t`: the part of the whole array for its batch row and block. -/
abbrev scl (c : Dev nD) (t : Fin cfg0.N) : FVec Ideal S1x2048 .f32 :=
  View.ld (iblk m c 3 t) (Rect.unit (s := S16x131072) (k0_off1 (grid0.coords t)) S1x2048.size (k0_off1_inb (grid0.coords t)))

/-- Block `t % 64`, token `j` of it, is token `t % 64 * 2048 + j` of the batch row. -/
theorem tok_at (t : Fin cfg0.N) (j : Fin 2048) : (tok (t.val % 64 * 2048 + j)).val = t.val % 64 * 2048 + j :=
  Nat.mod_eq_of_lt (by omega)

/-- The scales loaded at point `t` are those of its tokens. -/
theorem scl_at (c : Dev nD) (t : Fin cfg0.N) (j : Fin 2048) :
    scl m c t (ix2 0 j) = SC m c (ix2 (row t) (tok (t.val % 64 * 2048 + j))) := by
  have e := tok_at t j
  have e' : (row t).val = t.val / 64 := rfl
  obtain ⟨-, -, -, -, -, -, ho, -⟩ := idx t
  have h0 : k0_off1 (grid0.coords t) 0 = t.val / 64 := congrFun ho 0
  have h1 : k0_off1 (grid0.coords t) 1 = t.val % 64 * 2048 := congrFun ho 1
  unfold scl
  pointwise
  blk_ext [iblk, V, idx t]

/-- The codes of point `t` are those of its tokens. -/
theorem codes_at (c : Dev nD) (t : Fin cfg0.N) (j : Fin 2048) (d : Fin 512) :
    (show FVec Ideal S1x2048x512 .fp8e4m3 from iblk m c 2 t) (ix3 0 j d) = K m c (ix3 (row t) (tok (t.val % 64 * 2048 + j)) d) := by
  have e := tok_at t j
  have e' : (row t).val = t.val / 64 := rfl
  blk_ext [iblk, V, idx t]

/-- The rotary keys of point `t` are those of its tokens. -/
theorem rope_at (c : Dev nD) (t : Fin cfg0.N) (j : Fin 2048) (d : Fin 64) :
    (show FVec Ideal S1x2048x64 .bf16 from iblk m c 4 t) (ix3 0 j d) = KR m c (ix3 (row t) (tok (t.val % 64 * 2048 + j)) d) := by
  have e := tok_at t j
  have e' : (row t).val = t.val / 64 := rfl
  blk_ext [iblk, V, idx t]

/-- The queries as the region finds them: `x` split into heads. -/
theorem entry_q (c : Dev nD) (b : Fin 16) (h : Fin 64) (d : Fin 512) :
    (show FVec Ideal S16x64x512 .bf16 from V m c main_v0) (ix3 b h d) = X m c (ix3 b 0 ⟨h.val * 512 + d.val, by omega⟩) := by
  simp only [V, V0, List.flatten_cons, List.flatten_nil, List.append_nil]
  after_results
  pointwise

/-- The rotary queries as the region finds them: the unit axis dropped. -/
theorem entry_qr (c : Dev nD) (b : Fin 16) (h : Fin 64) (d : Fin 64) :
    (show FVec Ideal S16x64x64 .bf16 from V m c main_v1) (ix3 b h d) = QR m c (ix4 b 0 h d) := by
  simp only [V, V0, List.flatten_cons, List.flatten_nil, List.append_nil]
  after_results
  pointwise

/-- The queries of point `t` are those of its batch row. -/
theorem query_at (c : Dev nD) (t : Fin cfg0.N) (h : Fin 64) (d : Fin 512) :
    (show FVec Ideal S1x64x512 .bf16 from iblk m c 0 t) (ix3 0 h d) = X m c (ix3 (row t) 0 ⟨h.val * 512 + d.val, by omega⟩) := by
  have e' : (row t).val = t.val / 64 := rfl
  refine Eq.trans ?_ (entry_q m c (row t) h d)
  blk_ext [iblk, idx t]

/-- The rotary queries of point `t` are those of its batch row. -/
theorem ropeQuery_at (c : Dev nD) (t : Fin cfg0.N) (h : Fin 64) (d : Fin 64) :
    (show FVec Ideal S1x64x64 .bf16 from iblk m c 1 t) (ix3 0 h d) = QR m c (ix4 (row t) 0 h d) := by
  have e' : (row t).val = t.val / 64 := rfl
  refine Eq.trans ?_ (entry_qr m c (row t) h d)
  blk_ext [iblk, idx t]

/-- The score row of batch row `row t` and head `h`, of the arguments. -/
abbrev srow (c : Dev nD) (t : Fin cfg0.N) (h : Fin 64) : ℕ → EReal := score (X m c) (QR m c) (K m c) (SC m c) (KR m c) (row t) h

/-- The scores the body computes at point `t` are those of its 2048 tokens. -/
theorem score_block (c : Dev nD) (t : Fin cfg0.N) (h : Fin 64) (j : Fin 2048) :
    k0_pay9 (F := Ideal) (iblk m c 0 t) (iblk m c 1 t) (iblk m c 2 t) (iblk m c 4 t) (scl m c t) (ix2 h j)
    = srow m c t h (t.val % 64 * 2048 + j) := by
  refine (score_at (iblk m c 0 t) (iblk m c 1 t) (iblk m c 2 t) (iblk m c 4 t) (scl m c t) h j).trans ?_
  unfold srow score
  refine congrArg (· * _) (congrArg₂ (· + ·) (congrArg₂ (· * ·) (Finset.sum_congr rfl fun d _ => ?_) (scl_at m c t j))
    (Finset.sum_congr rfl fun d _ => ?_))
  · exact congrArg₂ (· * ·) (query_at m c t h d) (codes_at m c t j d)
  · exact congrArg₂ (· * ·) (ropeQuery_at m c t h d) (rope_at m c t j d)

/-- The dequantized codes the body accumulates at point `t` are those of its 2048 tokens. -/
theorem value_block (c : Dev nD) (t : Fin cfg0.N) (d : Fin 512) (j : Fin 2048) :
    scl m c t (ix2 0 j) * (show FVec Ideal S1x2048x512 .fp8e4m3 from iblk m c 2 t) (ix3 0 j d)
    = value (K m c) (SC m c) (row t) d (t.val % 64 * 2048 + j) :=
  congrArg₂ (· * ·) (scl_at m c t j) (codes_at m c t j d)

end Cert.KernelIdeal.Value

end
-- ==== Proof.KernelValue.lean ====
module

public import proofs.«01_k».proof.Proof.Blocks
public import Idealize.ShloMosaic.Lib.Pipeline.ReadBack

/-!
  What the kernel leaves: after the point of block `n` of a batch row, the three scratch arrays hold the maximum, the sum of
  exponentials and the weighted sums over the row's first `(n + 1) * 2048` tokens; the last point of the row stores their
  quotient, so the result array is the attention output.
-/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Decode

variable (m : (ℓ : Loc nD τ sig) → Buf (Elt Ideal) ℓ)

/-- The three scratch arrays, with the contents they have after the first `n` tokens of the batch row of point `t`. -/
def Holds (c : Dev nD) (t : Fin cfg0.N) (n : ℕ) (pm pl : FVec Ideal S64x1 .f32) (po : FVec Ideal S64x512 .f32) : Prop :=
  (∀ h : Fin 64, pm (ix2 h 0) = Online.top (srow m c t h) n)
  ∧ (∀ h : Fin 64, pl (ix2 h 0) = Online.acc (srow m c t h) (fun _ => 1) n)
  ∧ ∀ (h : Fin 64) (d : Fin 512), po (ix2 h d) = Online.acc (srow m c t h) (value (K m c) (SC m c) (row t) d) n

/-- What the body stores in the maximum scratch at point `t`, from the scratch contents `pm`. -/
abbrev newMax (c : Dev nD) (t : Fin cfg0.N) (pm : FVec Ideal S64x1 .f32) : FVec Ideal S64x1 .f32 :=
  k0_pay10 (F := Ideal) (iblk m c 0 t) (iblk m c 1 t) (iblk m c 2 t) (iblk m c 4 t) (scl m c t) pm
/-- What it stores in the scratch of sums of exponentials. -/
abbrev newSum (c : Dev nD) (t : Fin cfg0.N) (pm pl : FVec Ideal S64x1 .f32) : FVec Ideal S64x1 .f32 :=
  k0_pay1 (F := Ideal) (k0_pay11 (iblk m c 0 t) (iblk m c 1 t) (iblk m c 2 t) (iblk m c 4 t) (scl m c t) pm)
    (k0_pay13 (iblk m c 0 t) (iblk m c 1 t) (iblk m c 2 t) (iblk m c 4 t) (scl m c t) pm pl)
/-- What it stores in the accumulator. -/
abbrev newAcc (c : Dev nD) (t : Fin cfg0.N) (pm : FVec Ideal S64x1 .f32) (po : FVec Ideal S64x512 .f32) : FVec Ideal S64x512 .f32 :=
  k0_pay3 (F := Ideal) (k0_pay8 (iblk m c 2 t)) (scl m c t)
    (k0_pay11 (iblk m c 0 t) (iblk m c 1 t) (iblk m c 2 t) (iblk m c 4 t) (scl m c t) pm)
    (k0_pay12 (iblk m c 0 t) (iblk m c 1 t) (iblk m c 2 t) (iblk m c 4 t) (scl m c t) pm) po

/-- One point moves the scratch over the 2048 tokens of its block. -/
theorem holds_step (c : Dev nD) (t : Fin cfg0.N) (pm pl : FVec Ideal S64x1 .f32) (po : FVec Ideal S64x512 .f32)
    (hp : Holds m c t (t.val % 64 * 2048) pm pl po) :
    Holds m c t (t.val % 64 * 2048 + 2048) (newMax m c t pm) (newSum m c t pm pl) (newAcc m c t pm po) :=
  ⟨fun h => max_step _ _ _ _ _ _ _ _ h 0 (score_block m c t h) (hp.1 h),
   fun h => sum_step _ _ _ _ _ _ _ _ _ h 0 (score_block m c t h) (hp.1 h) (hp.2.1 h),
   fun h d => acc_step _ _ _ _ _ _ _ _ _ _ h d (score_block m c t h) (hp.1 h) (value_block m c t d) (hp.2.2 h d)⟩

/-- The contents the first point of a row resets the scratch to are those after no tokens. -/
theorem holds_reset (c : Dev nD) (t : Fin cfg0.N) : Holds m c t 0 (k0_pay5 (F := Ideal)) (k0_pay6 (F := Ideal)) (k0_pay7 (F := Ideal)) :=
  ⟨fun h => (initMax_at _).trans (Online.top_zero _).symm, fun h => (initSum_at _).trans (Online.acc_zero _ _).symm,
   fun h d => (initAcc_at _).trans (Online.acc_zero _ _).symm⟩

/-- The maxima left by the point before. -/
abbrev prevMax (c : Dev nD) (t : Fin cfg0.N) : FVec Ideal S64x1 .f32 := (outsAt0 m c (t.val - 1) (lt_of_le_of_lt (Nat.sub_le _ _) t.isLt)).2.1
/-- The sums of exponentials left by the point before. -/
abbrev prevSum (c : Dev nD) (t : Fin cfg0.N) : FVec Ideal S64x1 .f32 := (outsAt0 m c (t.val - 1) (lt_of_le_of_lt (Nat.sub_le _ _) t.isLt)).2.2.1
/-- The accumulator left by the point before. -/
abbrev prevAcc (c : Dev nD) (t : Fin cfg0.N) : FVec Ideal S64x512 .f32 := (outsAt0 m c (t.val - 1) (lt_of_le_of_lt (Nat.sub_le _ _) t.isLt)).2.2.2

/-- The scratch after a row's first point: the stores' values over the reset contents. -/
theorem scratch_A (c : Dev nD) (t : Fin cfg0.N) (h0 : t.val % 64 = 0) (h1 : ¬t.val % 64 = 63) :
    (outsAt0 m c t.val t.isLt).2 = (newMax m c t (k0_pay5 (F := Ideal)), newSum m c t (k0_pay5 (F := Ideal)) (k0_pay6 (F := Ideal)), newAcc m c t (k0_pay5 (F := Ideal)) (k0_pay7 (F := Ideal))) := by
  rw [outsAt0_A m c t h0 h1]
  refine Prod.ext ?_ (Prod.ext ?_ ?_)
  · funext j; frame_out; simp only [maxStore_at]; rfl
  · funext j; frame_out; rfl
  · funext j; frame_out; rfl

/-- The scratch after a point inside a row: the stores' values over what the point before left. -/
theorem scratch_B (c : Dev nD) (t : Fin cfg0.N) (h0 : ¬t.val % 64 = 0) (h1 : ¬t.val % 64 = 63) :
    (outsAt0 m c t.val t.isLt).2 = (newMax m c t (prevMax m c t), newSum m c t (prevMax m c t) (prevSum m c t), newAcc m c t (prevMax m c t) (prevAcc m c t)) := by
  rw [outsAt0_B m c t h0 h1]
  refine Prod.ext ?_ (Prod.ext ?_ ?_)
  · funext j; frame_out; simp only [maxStore_at, read_unread_whole]; rfl
  · funext j; frame_out; simp only [read_unread_whole]; rfl
  · funext j; frame_out; simp only [read_unread_whole]; rfl

/-- The same after a row's last point. -/
theorem scratch_C (c : Dev nD) (t : Fin cfg0.N) (h0 : ¬t.val % 64 = 0) (h1 : t.val % 64 = 63) :
    (outsAt0 m c t.val t.isLt).2 = (newMax m c t (prevMax m c t), newSum m c t (prevMax m c t) (prevSum m c t), newAcc m c t (prevMax m c t) (prevAcc m c t)) := by
  rw [outsAt0_C m c t h0 h1]
  refine Prod.ext ?_ (Prod.ext ?_ ?_)
  · funext j; frame_out; simp only [maxStore_at, read_unread_whole]; rfl
  · funext j; frame_out; simp only [read_unread_whole]; rfl
  · funext j; frame_out; simp only [read_unread_whole]; rfl

/-- The scratch after any point but a row's first. -/
theorem scratch_next (c : Dev nD) (t : Fin cfg0.N) (h0 : ¬t.val % 64 = 0) :
    (outsAt0 m c t.val t.isLt).2 = (newMax m c t (prevMax m c t), newSum m c t (prevMax m c t) (prevSum m c t), newAcc m c t (prevMax m c t) (prevAcc m c t)) := by
  by_cases h1 : t.val % 64 = 63
  · exact scratch_C m c t h0 h1
  · exact scratch_B m c t h0 h1

/-- The output block stored at a row's last point: the new accumulator over the new sum. -/
theorem out_C (c : Dev nD) (t : Fin cfg0.N) (h0 : ¬t.val % 64 = 0) (h1 : t.val % 64 = 63) :
    (outsAt0 m c t.val t.isLt).1 = k0_pay4 (F := Ideal) (newAcc m c t (prevMax m c t) (prevAcc m c t)) (newSum m c t (prevMax m c t) (prevSum m c t)) := by
  rw [outsAt0_C m c t h0 h1]
  funext j; frame_out; simp only [read_unread_whole]; rfl

/-- `Holds` speaks of the point only through its batch row. -/
theorem holds_row (c : Dev nD) (t t' : Fin cfg0.N) (e : row t = row t') (n : ℕ) (pm pl po) (h : Holds m c t n pm pl po) :
    Holds m c t' n pm pl po := by
  unfold Holds srow at h ⊢
  rwa [← e]

/-- After a point that is no row's first, if the point before it left the scratch over the blocks before. -/
theorem holds_next (c : Dev nD) (t : Fin cfg0.N) (h0 : ¬t.val % 64 = 0)
    (hp : Holds m c ⟨t.val - 1, lt_of_le_of_lt (Nat.sub_le _ _) t.isLt⟩ ((t.val - 1) % 64 * 2048 + 2048) (prevMax m c t) (prevSum m c t) (prevAcc m c t)) :
    Holds m c t (t.val % 64 * 2048 + 2048) (newMax m c t (prevMax m c t)) (newSum m c t (prevMax m c t) (prevSum m c t))
      (newAcc m c t (prevMax m c t) (prevAcc m c t)) := by
  have hp' := holds_row m c ⟨t.val - 1, lt_of_le_of_lt (Nat.sub_le _ _) t.isLt⟩ t (Fin.ext (show (t.val - 1) / 64 = t.val / 64 by omega)) _ _ _ _ hp
  rw [show (t.val - 1) % 64 * 2048 + 2048 = t.val % 64 * 2048 by omega] at hp'
  exact holds_step m c t _ _ _ hp'

/-- THE SCRATCH, after every point: the row's tokens up to the end of the point's block. -/
theorem holds_at (c : Dev nD) : ∀ (n : ℕ) (hn : n < cfg0.N),
    Holds m c ⟨n, hn⟩ (n % 64 * 2048 + 2048) (outsAt0 m c n hn).2.1 (outsAt0 m c n hn).2.2.1 (outsAt0 m c n hn).2.2.2 := by
  intro n
  induction n with
  | zero =>
    intro hn
    have e := scratch_A m c ⟨0, hn⟩ rfl (by dsimp only; decide)
    rw [show outsAt0 m c 0 hn = ((outsAt0 m c 0 hn).1, (outsAt0 m c 0 hn).2) from rfl, e]
    exact holds_step m c ⟨0, hn⟩ _ _ _ (holds_reset m c ⟨0, hn⟩)
  | succ k ih =>
    intro hn
    by_cases h0 : (k + 1) % 64 = 0
    · have e := scratch_A m c ⟨k + 1, hn⟩ h0 (by dsimp only; omega)
      rw [show outsAt0 m c (k + 1) hn = ((outsAt0 m c (k + 1) hn).1, (outsAt0 m c (k + 1) hn).2) from rfl, e]
      refine holds_step m c ⟨k + 1, hn⟩ _ _ _ ?_
      rw [show (⟨k + 1, hn⟩ : Fin cfg0.N).val % 64 * 2048 = 0 by dsimp only; omega]
      exact holds_reset m c ⟨k + 1, hn⟩
    · have e := scratch_next m c ⟨k + 1, hn⟩ h0
      rw [show outsAt0 m c (k + 1) hn = ((outsAt0 m c (k + 1) hn).1, (outsAt0 m c (k + 1) hn).2) from rfl, e]
      exact holds_next m c ⟨k + 1, hn⟩ h0 (ih _)

/-- What the last point of a row stores in the output block: the attention output of the row. -/
theorem out_at_last (c : Dev nD) (t : Fin cfg0.N) (h1 : t.val % 64 = 63) (z : Fin 1) (h : Fin 64) (d : Fin 512) :
    (show FVec Ideal S1x64x512 .bf16 from (outsAt0 m c t.val t.isLt).1) (ix3 z h d)
    = out (X m c) (QR m c) (K m c) (SC m c) (KR m c) (row t) h d := by
  have h0 : ¬t.val % 64 = 0 := by omega
  have hn := holds_next m c t h0 (holds_at m c _ _)
  rw [show t.val % 64 * 2048 + 2048 = 131072 by omega] at hn
  rw [out_C m c t h0 h1]
  refine (out_at _ _ z h d).trans ?_
  rw [hn.2.1 h, hn.2.2 h d]
  rfl

/-- The attention output, per batch row, head and column. -/
def heads (c : Dev nD) : FVec Ideal S16x64x512 .bf16 :=
  fun i => out (X m c) (QR m c) (K m c) (SC m c) (KR m c) (i 0) (i 1) (i 2)

/-- THE RESULT ARRAY of the region. -/
theorem final (c : Dev nD) : (dats m 0 c).arrAt 5 (cfgs 0).N = heads m c := by
  refine (dats m 0 c).arrAt_eq_of_covers 5 _ (by decide +kernel) fun t hf y => ?_
  blk_simp
  rw [after0_5]
  idx_vars y
  refine (out_at_last m c t ((flush0_5 t).mp hf) _ _ _).trans ?_
  have e' : (row t).val = t.val / 64 := rfl
  change heads m c (ix3 (row t) y1 y2) = heads m c _
  refine congrArg (heads m c) ?_
  blk_ext [idx t]

/-- The kernel's result: the heads side by side. -/
def result (c : Dev nD) : FVec Ideal S16x1x32768 .bf16 := fun i =>
  out (X m c) (QR m c) (K m c) (SC m c) (KR m c) (i 0)
    ⟨(show Fin 32768 from i 2).val / 512, by have := (show Fin 32768 from i 2).isLt; omega⟩
    ⟨(show Fin 32768 from i 2).val % 512, Nat.mod_lt _ (by decide)⟩

/-- THE RESULT, after the operation that follows the region. -/
theorem tail (c : Dev nD) : Pipeline.afterTail₀ cfgs (dats m) 0 (V0 m) [hostOps1] c main_v3 = result m c := by
  have e : Pipeline.afterTail₀ cfgs (dats m) 0 (V0 m) [hostOps1] c main_v3
      = shapeCast S16x1x32768 (heads m c) shapeCasts_S16x64x512_S16x1x32768 := by
    unfold Pipeline.afterTail₀
    simp only [List.flatten_cons, List.flatten_nil, List.append_nil]
    after_results
    erw [Pipeline.withArrays_arr spec0 launch0.win.arr_inj c (V0 m c) _ 5]
    exact congrArg (fun A : FVec Ideal S16x64x512 .bf16 => shapeCast S16x1x32768 A shapeCasts_S16x64x512_S16x1x32768) (final m c)
  rw [e]
  funext i
  idx_vars i
  pointwise [heads, result]

/-- THE RUN: the kernel ends with its result at the attention output and its arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v3 (Pipeline.mem_restRefs_of main_v3 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Value

end
-- ==== Proof.RefValue.lean ====
module

public import proofs.«01_k».proof.Proof.Gen.ReferenceIdeal.Frame
public import proofs.«01_k».proof.Proof.Decode
public import Idealize.ShloMosaic.Lib.Pipeline.ValueKit
public import Idealize.ShloMosaic.Lib.Pointwise
public import Idealize.ShloMosaic.Lib.Claim

/-!
  What the reference leaves: its result is the attention output of its arguments.
-/

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen Cert.Decode

/-! ## The host operations' terms -/

variable (q : FVec Ideal S16x1x64x512 .bf16) (qr : FVec Ideal S16x1x64x64 .bf16) (k : FVec Ideal S16x131072x512 .bf16)
  (sc : FVec Ideal S16x131072 .f32) (kr : FVec Ideal S16x131072x64 .bf16)

/-- The scales, once per head. -/
def scales : FVec Ideal S16x1x64x131072 .f32 :=
  broadcastInDim S16x1x64x131072 ![0, 1, 2, 3] bcast_S16x1x1x131072_S16x1x64x131072_0_1_2_3
    (broadcastInDim S16x1x1x131072 ![0, 3] bcast_S16x131072_S16x1x1x131072_0_3 sc)

/-- The scores. -/
def scores : FVec Ideal S16x1x64x131072 .f32 :=
  mulf (addf (mulf (Host.dotGeneral dot_S16x1x64x512_S16x131072x512_S16x1x64x131072_3_2_12_1_0_0 none q k) (scales sc))
      (Host.dotGeneral dot_S16x1x64x64_S16x131072x64_S16x1x64x131072_3_2_12_1_0_0 none qr kr))
    (broadcastInDim S16x1x64x131072 ![] bcast_S_S16x1x64x131072 (constant (F := Ideal) S_ .f32 0x3D93CD3A#32))

/-- Each row's maximum. -/
def maxes (s : FVec Ideal S16x1x64x131072 .f32) : FVec Ideal S16x1x64 .f32 :=
  Host.reduce FloatOps.maximumf s (constant (F := Ideal) S_ .f32 0xFF800000#32) reducesTo_S16x1x64x131072_S16x1x64_d3 h_S_

/-- The exponentials of the scores' distances from their row's maximum. -/
def exps (s : FVec Ideal S16x1x64x131072 .f32) : FVec Ideal S16x1x64x131072 .f32 :=
  Host.exp (subf s (broadcastInDim S16x1x64x131072 ![0, 1, 2, 3] bcast_S16x1x64x1_S16x1x64x131072_0_1_2_3
    (broadcastInDim S16x1x64x1 ![0, 1, 2] bcast_S16x1x64_S16x1x64x1_0_1_2 (maxes s))))

/-- The quotient of the weighted sums by the sums of exponentials, heads side by side. -/
def quot (e : FVec Ideal S16x1x64x131072 .f32) : FVec Ideal S16x1x32768 .bf16 :=
  truncf .bf16 (shapeCast S16x1x32768
    (Host.divf (Host.dotGeneral dot_S16x1x64x131072_S16x131072x512_S16x1x64x512_3_1_12_2_0_0 none (mulf e (scales sc)) k)
      (broadcastInDim S16x1x64x512 ![0, 1, 2, 3] bcast_S16x1x64x1_S16x1x64x512_0_1_2_3
        (broadcastInDim S16x1x64x1 ![0, 1, 2] bcast_S16x1x64_S16x1x64x1_0_1_2
          (Host.reduceAdd e (constant (F := Ideal) S_ .f32 0x00000000#32) reducesTo_S16x1x64x131072_S16x1x64_d3 h_S_))))
    shapeCasts_S16x1x64x512_S16x1x32768) bitsLt_bf16_f32

/-! ## At an index -/

/-- A score: the latent product times the scale, plus the rotary product, times the score scale. -/
theorem scores_at (b : Fin 16) (h : Fin 64) (j : Fin 131072) : scores q qr k sc kr (ix4 b 0 h j)
    = ((∑ c : Fin 512, q (ix4 b 0 h c) * k (ix3 b j c)) * sc (ix2 b j) + ∑ c : Fin 64, qr (ix4 b 0 h c) * kr (ix3 b j c))
      * Ideal.ofBits .f32 0x3D93CD3A#32 := by
  pointwise [scores, scales]

/-- A row's maximum, as a fold from the pattern of `-∞`. -/
theorem maxes_at (s : FVec Ideal S16x1x64x131072 .f32) (b : Fin 16) (h : Fin 64) :
    maxes s (ix3 b 0 h) = Finset.univ.fold max (Ideal.ofBits .f32 0xFF800000#32) fun j : Fin 131072 => s (ix4 b 0 h j) := by
  pointwise [maxes]

/-- An exponential: of the score less the row maximum. -/
theorem exps_at (s : FVec Ideal S16x1x64x131072 .f32) (b : Fin 16) (h : Fin 64) (j : Fin 131072) :
    exps s (ix4 b 0 h j) = Ideal.exp (s (ix4 b 0 h j) - maxes s (ix3 b 0 h)) := by
  pointwise [exps]

/-- A result element: the weighted sum of the codes over the row's sum. -/
theorem quot_at (e : FVec Ideal S16x1x64x131072 .f32) (b : Fin 16) (n : Fin 32768) : quot k sc e (ix3 b 0 n)
    = Ideal.div (∑ j : Fin 131072, e (ix4 b 0 ⟨n.val / 512, by omega⟩ j) * sc (ix2 b j) * k (ix3 b j ⟨n.val % 512, by omega⟩))
        (∑ j : Fin 131072, e (ix4 b 0 ⟨n.val / 512, by omega⟩ j)) := by
  pointwise [quot, scales]

variable (m : (ℓ : Loc nD τ sig) → Buf (Elt Ideal) ℓ)

/-- The host operations after the region, composed. -/
theorem ops (W : Valuation τ sig (Elt Ideal)) : StableHlo.after (hostOps1 (F := Ideal)) W (Proc.devRef .tc main_v23)
    = quot (W (Proc.devRef .tc main_v1)) (W (Proc.devRef .tc main_arg3))
        (exps (scores (W (Proc.devRef .tc main_v0)) (W (Proc.devRef .tc main_arg1)) (W (Proc.devRef .tc main_v1))
          (W (Proc.devRef .tc main_arg3)) (W (Proc.devRef .tc main_arg4)))) := by
  unfold quot exps maxes scores scales
  after_results
  rfl

/-- The region has one point, whose blocks are the whole arrays. -/
theorem idx : ∀ t : Fin cfg0.N, win0_0.index t = ![0, 0, 0] ∧ win0_1.index t = ![0, 0, 0] :=
  (by decide +kernel : ∀ t : Fin grid0.N, _)

/-- The region's result array: the codes (a conversion to a wider format changes no value). -/
theorem final (c : Dev nD) : (dats m 0 c).arrAt 1 (cfgs 0).N
    = (fun i => m ((c : Thread nD τ).loc main_arg2) i : FVec Ideal S16x131072x512 .bf16) := by
  refine (dats m 0 c).arrAt_eq_of_after_last 1 t0_0 (by decide +kernel) _ fun j => ?_
  blk_simp
  rw [after0_1]; frame_out
  idx_vars j
  pointwise [k0_pay1]
  blk_ext [iblk, V, V_main_arg2, idx t0_0]

/-- The reference's result: the heads side by side. -/
def result (c : Dev nD) : FVec Ideal S16x1x32768 .bf16 := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (i 0)
    ⟨(show Fin 32768 from i 2).val / 512, by have := (show Fin 32768 from i 2).isLt; omega⟩
    ⟨(show Fin 32768 from i 2).val % 512, Nat.mod_lt _ (by decide)⟩

/-- The reference's term at an index is the attention output. -/
theorem quot_out (x : FVec Ideal S16x1x32768 .bf16) (qr : FVec Ideal S16x1x64x64 .bf16) (k : FVec Ideal S16x131072x512 .fp8e4m3)
    (sc : FVec Ideal S16x131072 .f32) (kr : FVec Ideal S16x131072x64 .bf16) (b : Fin 16) (n : Fin 32768) :
    quot (fun i => k i) sc (exps (scores (shapeCast S16x1x64x512 x shapeCasts_S16x1x32768_S16x1x64x512) qr (fun i => k i) sc kr)) (ix3 b 0 n)
    = out x qr k sc kr b ⟨n.val / 512, by omega⟩ ⟨n.val % 512, by omega⟩ := by
  have hs : ∀ (h : Fin 64) (j : Fin 131072), scores (shapeCast S16x1x64x512 x shapeCasts_S16x1x32768_S16x1x64x512) qr (fun i => k i) sc kr (ix4 b 0 h j)
      = score x qr k sc kr b h j := by
    intro h j
    rw [scores_at]
    unfold score
    rw [tok_val]
    pointwise
  rw [quot_at]
  unfold out
  rw [Online.acc_all, Online.acc_all]
  have ht : ∀ h : Fin 64, maxes (scores (shapeCast S16x1x64x512 x shapeCasts_S16x1x32768_S16x1x64x512) qr (fun i => k i) sc kr) (ix3 b 0 h)
      = Online.top (score x qr k sc kr b h) 131072 := by
    intro h
    rw [maxes_at, Online.top_all, Online.ofBits_negInf]
    simp only [hs]
  simp only [exps_at, hs, ht, mul_one, value, tok_val, mul_assoc]

/-- The five arrays the operations after the region read, as the region leaves them. -/
theorem left_v1 (c : Dev nD) : Pipeline.withArrays (cfgs 0).spec c (V0 m c) (fun w => (dats m 0 c).arrAt w (cfgs 0).N) (Proc.devRef .tc main_v1)
    = (fun i => m ((c : Thread nD τ).loc main_arg2) i : FVec Ideal S16x131072x512 .bf16) :=
  (Pipeline.withArrays_arr spec0 launch0.win.arr_inj c (V0 m c) _ 1).trans (final m c)

/-- What the region leaves in the queries: `x` split into heads. -/
theorem left_v0 (c : Dev nD) : Pipeline.withArrays (cfgs 0).spec c (V0 m c) (fun w => (dats m 0 c).arrAt w (cfgs 0).N) (Proc.devRef .tc main_v0)
    = shapeCast S16x1x64x512 (show FVec Ideal S16x1x32768 .bf16 from m ((c : Thread nD τ).loc main_arg0)) shapeCasts_S16x1x32768_S16x1x64x512 := by
  refine (Pipeline.withArrays_of_ne _ c (V0 m c) _ main_v0 (by exact (by decide : ∀ w, Pipeline.arrRef spec0 w ≠ main_v0))).trans ?_
  simp only [V0, List.flatten_cons, List.flatten_nil, List.append_nil]
  after_results
  rfl

/-- The region leaves the rotary queries as launched. -/
theorem left_arg1 (c : Dev nD) : Pipeline.withArrays (cfgs 0).spec c (V0 m c) (fun w => (dats m 0 c).arrAt w (cfgs 0).N) (Proc.devRef .tc main_arg1)
    = m ((c : Thread nD τ).loc main_arg1) :=
  (Pipeline.withArrays_of_ne _ c (V0 m c) _ main_arg1 (by exact (by decide : ∀ w, Pipeline.arrRef spec0 w ≠ main_arg1))).trans (V_main_arg1 m c)

/-- The region leaves the scales as launched. -/
theorem left_arg3 (c : Dev nD) : Pipeline.withArrays (cfgs 0).spec c (V0 m c) (fun w => (dats m 0 c).arrAt w (cfgs 0).N) (Proc.devRef .tc main_arg3)
    = m ((c : Thread nD τ).loc main_arg3) :=
  (Pipeline.withArrays_of_ne _ c (V0 m c) _ main_arg3 (by exact (by decide : ∀ w, Pipeline.arrRef spec0 w ≠ main_arg3))).trans (V_main_arg3 m c)

/-- The region leaves the rotary keys as launched. -/
theorem left_arg4 (c : Dev nD) : Pipeline.withArrays (cfgs 0).spec c (V0 m c) (fun w => (dats m 0 c).arrAt w (cfgs 0).N) (Proc.devRef .tc main_arg4)
    = m ((c : Thread nD τ).loc main_arg4) :=
  (Pipeline.withArrays_of_ne _ c (V0 m c) _ main_arg4 (by exact (by decide : ∀ w, Pipeline.arrRef spec0 w ≠ main_arg4))).trans (V_main_arg4 m c)

/-- THE RESULT, after the operations that follow the region. -/
theorem tail (c : Dev nD) : Pipeline.afterTail₀ cfgs (dats m) 0 (V0 m) [hostOps1] c main_v23 = result m c := by
  unfold Pipeline.afterTail₀
  simp only [List.flatten_cons, List.flatten_nil, List.append_nil]
  rw [ops, left_v1, left_v0, left_arg1, left_arg3, left_arg4]
  funext i
  idx_vars i
  obtain rfl : i1 = 0 := Subsingleton.elim _ _
  exact quot_out _ _ _ _ _ i0 i2

/-- THE RUN: the reference ends with its result at the attention output and its arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v23 (Pipeline.mem_restRefs_of main_v23 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From the same arguments on every device the two results are equal. -/
theorem algebraic : Cert.algebraic_KernelIdeal_ReferenceIdeal := by
  intro m g m' g' _ hagree
  refine ⟨Cert.KernelIdeal.Value.result m, Cert.KernelIdeal.Value.run m g, ?_⟩
  refine (θ_run _ _ _).mono (fun _ h c => ⟨(h c).1.trans ?_, (h c).2⟩) (Cert.ReferenceIdeal.Value.run m' g')
  obtain ⟨h0, h1, h2, h3, h4⟩ := hagree c
  unfold Cert.ReferenceIdeal.Value.result
  rw [h0, h1, h2, h3, h4]
  rfl

/-- The certificate's claims: the frames of the kernel, the idealized kernel and the idealized reference, that idealizing
    changed nothing, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
